-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x26 : Shape := ⟨2, ![1024, 26]⟩
abbrev S26x1024 : Shape := ⟨2, ![26, 1024]⟩
abbrev S13x2x1024 : Shape := ⟨3, ![13, 2, 1024]⟩
abbrev S26x1000x1024 : Shape := ⟨3, ![26, 1000, 1024]⟩
abbrev S1x2x1024 : Shape := ⟨3, ![1, 2, 1024]⟩
abbrev S2x1000x1024 : Shape := ⟨3, ![2, 1000, 1024]⟩
abbrev S2x1024 : Shape := ⟨2, ![2, 1024]⟩
abbrev S2x1x1024 : Shape := ⟨3, ![2, 1, 1024]⟩
abbrev S1024x26x1000 : Shape := ⟨3, ![1024, 26, 1000]⟩

abbrev nBuf : Space → Nat
  | .hbm => 5
  | .vmem => 4
  | .smem => 0
  | _ => 0

abbrev bufTy : (tb : Table) → Fin (tcTables nBuf tb) → BufTy
  | .hbm, ⟨0, _⟩ => ⟨S1024x26, .i32⟩
  | .hbm, ⟨1, _⟩ => ⟨S26x1024, .i32⟩
  | .hbm, ⟨2, _⟩ => ⟨S13x2x1024, .i32⟩
  | .hbm, ⟨3, _⟩ => ⟨S26x1000x1024, .i32⟩
  | .hbm, ⟨4, _⟩ => ⟨S1024x26x1000, .i32⟩
  | .local _ .vmem, ⟨0, _⟩ => ⟨S1x2x1024, .i32⟩
  | .local _ .vmem, ⟨1, _⟩ => ⟨S1x2x1024, .i32⟩
  | .local _ .vmem, ⟨2, _⟩ => ⟨S2x1000x1024, .i32⟩
  | .local _ .vmem, ⟨3, _⟩ => ⟨S2x1000x1024, .i32⟩
  | _, _ => ⟨S1024x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1000x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x26 : Shape := ⟨2, ![1024, 26]⟩
abbrev S1024x26x1 : Shape := ⟨3, ![1024, 26, 1]⟩
abbrev S1000 : Shape := ⟨1, ![1000]⟩
abbrev S1x1x1000 : Shape := ⟨3, ![1, 1, 1000]⟩
abbrev S1024x26x1000 : Shape := ⟨3, ![1024, 26, 1000]⟩

abbrev nBuf : Space → Nat
  | .hbm => 8
  | .vmem => 0
  | .smem => 0
  | _ => 0

abbrev bufTy : (tb : Table) → Fin (tcTables nBuf tb) → BufTy
  | .hbm, ⟨0, _⟩ => ⟨S1024x26, .i32⟩
  | .hbm, ⟨1, _⟩ => ⟨S1024x26x1, .i32⟩
  | .hbm, ⟨2, _⟩ => ⟨S1000, .i32⟩
  | .hbm, ⟨3, _⟩ => ⟨S1x1x1000, .i32⟩
  | .hbm, ⟨4, _⟩ => ⟨S1024x26x1000, .i32⟩
  | .hbm, ⟨5, _⟩ => ⟨S1024x26x1000, .i32⟩
  | .hbm, ⟨6, _⟩ => ⟨S1024x26x1000, .i1⟩
  | .hbm, ⟨7, _⟩ => ⟨S1024x26x1000, .i32⟩
  | _, _ => ⟨S1024x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.OneHot.lean ====
/- The mathematics: what a one-hot array is, as a function of the index array. -/
module

public import Idealize.ShloMosaic.PureOps
public import Idealize.ShloMosaic.Lib.ValueIdxCore
public import Idealize.ShloMosaic.Lib.WordCmp

@[expose] public section

noncomputable section

namespace Cert.OneHot

open Idealize.ShloMosaic Idealize.ShloMosaic.ValueIdx

/-- One entry of a one-hot row: the word `1` when the index word `w` is the class number `k`, the word `0` otherwise. -/
def bit (w : BitVec 32) (k : Nat) : BitVec 32 := if w = BitVec.ofNat 32 k then 1#32 else 0#32

/-- Comparing two words for equality and widening the resulting bit to a word is the `if` between `1` and `0`. -/
theorem setWidth_cmpi_eq (w : BitVec 32) (k : Nat) :
    (IntOp.cmpi .eq w (BitVec.ofNat 32 k)).setWidth 32 = bit w k := by
  rw [WordCmp.cmpi_eq_eq, bit]
  by_cases h : w = BitVec.ofNat 32 k
  · rw [if_pos h, decide_eq_true h]; rfl
  · rw [if_neg h, decide_eq_false h]; rfl

/-- The one-hot encoding of the 1024 × 26 index array `x` into 1000 classes: entry `(b, j, k)` says whether
    `x[b, j]` is `k`. An index outside `0 … 999` gives a row of zeros. -/
def hot (x : (⟨2, ![1024, 26]⟩ : Shape).Idx → BitVec 32) : (⟨3, ![1024, 26, 1000]⟩ : Shape).Idx → BitVec 32 :=
  fun i => bit (x (ix2 (i 0) (i 1))) (i 2).val

/-- The same array with the batch axis last, the layout in which the kernel writes it: entry `(j, k, b)` is entry
    `(b, j, k)` of `hot`. -/
def hotT (x : (⟨2, ![1024, 26]⟩ : Shape).Idx → BitVec 32) : (⟨3, ![26, 1000, 1024]⟩ : Shape).Idx → BitVec 32 :=
  fun i => hot x (ix3 (i 2) (i 0) (i 1))

/-- `hotT` in terms of the index array. -/
theorem hotT_apply (x : (⟨2, ![1024, 26]⟩ : Shape).Idx → BitVec 32) (i : (⟨3, ![26, 1000, 1024]⟩ : Shape).Idx) :
    hotT x i = bit (x (ix2 (i 2) (i 0))) (i 1).val := rfl

end Cert.OneHot

end
-- ==== Proof.KernelBlock.lean ====
/- What one grid point of the kernel computes, and the index array as the kernel's region finds it. -/
module

public import proofs.«01_k».proof.Proof.Gen.KernelIdeal.Frame
public import proofs.«01_k».proof.Proof.OneHot
public import Idealize.ShloMosaic.Lib.Pipeline.Value
public import Idealize.ShloMosaic.Lib.StableHlo.Run

@[expose] public section

noncomputable section

namespace Cert.KernelIdeal.OneHot

open Cert.KernelIdeal Cert.KernelIdeal.Gen Idealize.ShloMosaic Idealize.ShloMosaic.TcCoe Idealize.SL.Sem
open Idealize.ShloMosaic.ValueIdx Cert.OneHot

variable {F : FTy → Type} [FloatOps F]

/-- The loaded block given a class axis and repeated along it reads, at `(r, k, b)`, the block's index `(0, r, b)`. -/
theorem rows_apply (v : IVec S1x2x1024 32) (r : Fin 2) (k : Fin 1000) (b : Fin 1024) :
    broadcastTo S2x1000x1024 (shapeCast S2x1x1024 (shapeCast S2x1024 v shapeCasts_S1x2x1024_S2x1024)
      shapeCasts_S2x1024_S2x1x1024) broadcasts_S2x1x1024_S2x1000x1024 (ix3 r k b) = v (ix3 0 r b) := by
  refine (broadcastTo_apply _ _ _ (ix3 r 0 b : S2x1x1024.Idx) fun a => ?_).trans ?_
  · match a with | ⟨0, _⟩ => rfl | ⟨1, _⟩ => rfl | ⟨2, _⟩ => rfl
  refine (shapeCast_apply _ _ (ix3 r 0 b : S2x1x1024.Idx) (ix2 r b : S2x1024.Idx) ?_).trans ?_
  · rw [Shape.rowMajor_val_two, Shape.rowMajor_val_three]
    show r.val * 1024 + b.val = (r.val * 1 + 0) * 1024 + b.val
    omega
  refine shapeCast_apply _ _ (ix2 r b : S2x1024.Idx) (ix3 0 r b : S1x2x1024.Idx) ?_
  rw [Shape.rowMajor_val_two, Shape.rowMajor_val_three]
  show (0 * 2 + r.val) * 1024 + b.val = r.val * 1024 + b.val
  omega

/-- The body's stored block: entry `(r, k, b)` says whether the loaded block's index `(0, r, b)` is the class `k`. -/
theorem payload_apply (v : Vec F S1x2x1024 .i32) (r : Fin 2) (k : Fin 1000) (b : Fin 1024) :
    k0_pay1 v (ix3 r k b) = bit (v (ix3 0 r b)) k.val := by
  unfold k0_pay1
  rw [extui_apply]
  show (IntOp.cmpi .eq (_ : BitVec 32) (_ : BitVec 32)).setWidth 32 = _
  rw [rows_apply, iota_single_apply, setWidth_cmpi_eq]

variable (m : (ℓ : Loc nD τ sig) → Buf (Elt F) ℓ)

/-- The array the region reads is the argument transposed and cut into 13 pairs of rows. -/
theorem V_main_v1 (c : Dev nD) : V m c main_v1 = shapeCast S13x2x1024 (transpose S26x1024 [1, 0]
      (m ((c.tc : Thread nD τ).loc main_arg0)) transposes_S1024x26_S26x1024_1_0) shapeCasts_S26x1024_S13x2x1024 := by
  show StableHlo.after (List.flatten [hostOps0]) _ _ = _
  simp only [List.flatten_cons, List.flatten_nil, List.append_nil]
  after_results
  rfl

/-- Read at `(t, r, b)` it is the argument's index at batch `b`, position `2 t + r`. -/
theorem V_main_v1_apply (c : Dev nD) (i : S13x2x1024.Idx) (k : S1024x26.Idx) (h0 : (k 0).val = (i 2).val)
    (h1 : (k 1).val = 2 * (i 0).val + (i 1).val) :
    V m c main_v1 i = m ((c.tc : Thread nD τ).loc main_arg0) k := by
  rw [V_main_v1]
  refine (shapeCast_apply _ _ i (ix2 (k 1) (k 0) : S26x1024.Idx) ?_).trans ?_
  · rw [Shape.rowMajor_val_two, Shape.rowMajor_val_three]
    show (k 1).val * 1024 + (k 0).val = ((i 0).val * 2 + (i 1).val) * 1024 + (i 2).val
    omega
  · refine transpose_apply _ _ _ _ k fun b => ?_
    match b with | ⟨0, _⟩ => rfl | ⟨1, _⟩ => rfl

end Cert.KernelIdeal.OneHot

end
-- ==== Proof.KernelArray.lean ====
/- What the kernel's output array holds after the run, and what the program returns. -/
module

public import proofs.«01_k».proof.Proof.KernelBlock

@[expose] public section

noncomputable section

namespace Cert.KernelIdeal.OneHot

open Cert.KernelIdeal Cert.KernelIdeal.Gen Idealize.ShloMosaic Idealize.ShloMosaic.TcCoe Idealize.SL.Sem
open Idealize.ShloMosaic.ValueIdx Cert.OneHot

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- At point `t` the input window is at block `t` of the pairs of rows, and whole along the other two axes. -/
theorem index0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t

/-- At point `t` the output window is at block `t` of the positions, and whole along the other two axes. -/
theorem index1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

/-- Entry `y` of the output's block at point `t` lies in the array at position `2 t + y 0`, class `y 1`, batch `y 2`. -/
theorem out_emb (t : Fin cfg0.N) (y : S2x1000x1024.Idx) :
    (((win0_1.rect t).emb y : S26x1000x1024.Idx) 0).val = t.val * 2 + (y 0).val
      ∧ (((win0_1.rect t).emb y : S26x1000x1024.Idx) 1).val = (y 1).val
      ∧ (((win0_1.rect t).emb y : S26x1000x1024.Idx) 2).val = (y 2).val := by
  refine ⟨(win0_1.rect_emb_val t y 0).trans ?_, win0_1.rect_emb_val_of_index_zero t 1 (index1 t).2.1 y,
    win0_1.rect_emb_val_of_index_zero t 2 (index1 t).2.2 y⟩
  rw [(index1 t).1]
  rfl

/-- Entry `y` of the input's block at point `t` lies in the array at pair `t`, row `y 1` of the pair, batch `y 2`. -/
theorem in_emb (t : Fin cfg0.N) (y : S1x2x1024.Idx) :
    (((win0_0.rect t).emb y : S13x2x1024.Idx) 0).val = t.val
      ∧ (((win0_0.rect t).emb y : S13x2x1024.Idx) 1).val = (y 1).val
      ∧ (((win0_0.rect t).emb y : S13x2x1024.Idx) 2).val = (y 2).val := by
  refine ⟨(win0_0.rect_emb_val t y 0).trans ?_, win0_0.rect_emb_val_of_index_zero t 1 (index0 t).2.1 y,
    win0_0.rect_emb_val_of_index_zero t 2 (index0 t).2.2 y⟩
  rw [(index0 t).1]
  have h : (y 0).val < 1 := (y 0).isLt
  show t.val * 1 + (y 0).val = t.val
  omega

/-- What point `t` writes back is block `t` of the transposed one-hot array of the argument. -/
theorem flushed_eq (c : Dev nD) (t : Fin cfg0.N) :
    (dats m 0 c).flushed 1 t
      = ((cfg0.win 1).blk t).view.read (Elt F) (hotT (m ((c.tc : Thread nD τ).loc main_arg0))) := by
  show (cfg0.win 1).cut (grid0.coords t) ((dats m 0 c).after 1 t) = _
  rw [after0_1]
  unfold out0_1
  rw [View.canon_unit_zero zero_offsets, View.ld_unit_zero zero_offsets]
  refine funext fun (y : S2x1000x1024.Idx) => ?_
  obtain ⟨r, k, b, rfl⟩ : ∃ (r : Fin 2) (k : Fin 1000) (b : Fin 1024), y = ix3 r k b := ⟨y 0, y 1, y 2, eq_ix3 y⟩
  obtain ⟨h0, h1, h2⟩ := out_emb t (ix3 r k b)
  obtain ⟨g0, g1, g2⟩ := in_emb t (ix3 0 r b)
  refine (payload_apply (iblk m c 0 t) r k b).trans (Eq.trans ?_ (hotT_apply _ ((win0_1.rect t).emb (ix3 r k b))).symm)
  rw [h1]
  refine congrArg (fun w => bit w k.val) ?_
  refine V_main_v1_apply m c ((win0_0.rect t).emb (ix3 0 r b)) _ (h2.trans g2.symm) ?_
  show (((win0_1.rect t).emb (ix3 r k b) : S26x1000x1024.Idx) 0).val = _
  rw [h0, g0, g1]
  show t.val * 2 + r.val = 2 * t.val + r.val
  omega

/-- Every entry of the output array is in some point's block: position `j` in that of point `j / 2`. -/
theorem covered (i : S26x1000x1024.Idx) :
    ∃ t : Fin cfg0.N, (cfg0.win 1).flush t = true ∧ i ∈ ((cfg0.win 1).blk t).view.set := by
  have hi : (i 0).val < 26 := (i 0).isLt
  have hN : cfg0.N = 13 := by decide
  let t : Fin cfg0.N := ⟨(i 0).val / 2, by rw [hN]; omega⟩
  refine ⟨t, flush0_1 t, ?_⟩
  let y : S2x1000x1024.Idx := ix3 (⟨(i 0).val % 2, Nat.mod_lt _ Nat.two_pos⟩ : Fin 2) (i 1) (i 2)
  obtain ⟨h0, h1, h2⟩ := out_emb t y
  have e : (win0_1.rect t).emb y = i := funext fun a => Fin.ext <| match a with
    | ⟨0, _⟩ => h0.trans (by show (i 0).val / 2 * 2 + (i 0).val % 2 = (i 0).val; omega)
    | ⟨1, _⟩ => h1
    | ⟨2, _⟩ => h2
  have hm := ((cfg0.win 1).blk t).view.emb_mem_set y
  exact e ▸ hm

/-- After the run the kernel's output array is the transposed one-hot array of the argument. -/
theorem final (c : Dev nD) :
    (dats m 0 c).arrAt 1 cfg0.N = hotT (m ((c.tc : Thread nD τ).loc main_arg0)) :=
  (dats m 0 c).arrAt_eq_of_cover 1 _ (fun t _ => flushed_eq m c t) covered

/-- The transpose after the call puts the batch axis first again: the program's result is the one-hot array. -/
theorem tail (c : Dev nD) : Pipeline.afterTail₀ cfgs (dats m) 0 (V0 m) [hostOps1] c main_v3
    = hot (m ((c.tc : Thread nD τ).loc main_arg0)) := by
  have hread : Pipeline.afterTail₀ cfgs (dats m) 0 (V0 m) [hostOps1] c main_v3
      = transpose S1024x26x1000 [2, 0, 1] (hotT (m ((c.tc : Thread nD τ).loc main_arg0)))
          transposes_S26x1000x1024_S1024x26x1000_2_0_1 := by
    unfold Pipeline.afterTail₀
    simp only [List.flatten_cons, List.flatten_nil, List.append_nil]
    after_results
    refine congrArg (fun x => transpose S1024x26x1000 [2, 0, 1] x transposes_S26x1000x1024_S1024x26x1000_2_0_1) ?_
    exact ((dats m 0 c).withArrays_arrAt launch0.to₀.sharedIn (V0 m c) (A_eq m c) 1).trans (final m c)
  rw [hread]
  funext i
  refine (transpose_apply _ _ _ i (ix3 (i 1) (i 2) (i 0) : S26x1000x1024.Idx) fun b => ?_).trans ?_
  · match b with | ⟨0, _⟩ => rfl | ⟨1, _⟩ => rfl | ⟨2, _⟩ => rfl
  · exact congrArg (hot _) (eq_ix3 i).symm

/-- The program's run: the result is the one-hot array of the argument, and the argument is unchanged. -/
theorem run : θ_run defs (onTc (τ := τ) (main (F := F))) ⟨m, fun _ => 0, ρ⟩ fun r => ∀ c : Dev nD,
      r.2.mem ((c.tc : Thread nD τ).loc main_v3) = hot (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c)⟩)
    (run_main m ρ)

end Cert.KernelIdeal.OneHot

end
-- ==== Proof.RefValue.lean ====
/- What the reference computes: the one-hot array of its argument. -/
module

public import proofs.«01_k».proof.Proof.Gen.ReferenceIdeal.Run
public import proofs.«01_k».proof.Proof.OneHot
public import Idealize.ShloMosaic.Lib.Pipeline.Value

@[expose] public section

noncomputable section

namespace Cert.ReferenceIdeal.OneHot

open Cert.ReferenceIdeal Cert.ReferenceIdeal.Gen Idealize.ShloMosaic Idealize.ShloMosaic.TcCoe Idealize.SL.Sem
open Idealize.ShloMosaic.ValueIdx Cert.OneHot

variable {F : FTy → Type} [FloatOps F]

/-- The index array given a class axis and repeated along it reads, at `(b, j, k)`, the index at `(b, j)`. -/
theorem index_apply (x : IVec S1024x26 32) (i : S1024x26x1000.Idx) :
    broadcastInDim S1024x26x1000 ![0, 1, 2] bcast_S1024x26x1_S1024x26x1000_0_1_2
      (broadcastInDim S1024x26x1 ![0, 1] bcast_S1024x26_S1024x26x1_0_1 x) i = x (ix2 (i 0) (i 1)) := by
  refine (broadcastInDim_apply _ _ _ i (ix3 (i 0) (i 1) (0 : Fin 1)) fun a => ?_).trans ?_
  · match a with | ⟨0, _⟩ => rfl | ⟨1, _⟩ => rfl | ⟨2, _⟩ => rfl
  · refine broadcastInDim_apply _ _ _ _ _ fun a => ?_
    match a with | ⟨0, _⟩ => rfl | ⟨1, _⟩ => rfl

/-- The class numbers `0 … 999` repeated over the other two axes read, at `(b, j, k)`, the word of `k`. -/
theorem class_apply (i : S1024x26x1000.Idx) :
    broadcastInDim S1024x26x1000 ![0, 1, 2] bcast_S1x1x1000_S1024x26x1000_0_1_2
      (broadcastInDim S1x1x1000 ![2] bcast_S1000_S1x1x1000_2 (iotaInDim S1000 32 0)) i = BitVec.ofNat 32 (i 2).val := by
  refine (broadcastInDim_apply _ _ _ i (ix3 (0 : Fin 1) (0 : Fin 1) (i 2)) fun a => ?_).trans ?_
  · match a with | ⟨0, _⟩ => rfl | ⟨1, _⟩ => rfl | ⟨2, _⟩ => rfl
  · refine (broadcastInDim_apply _ _ _ _ (ix1 (i 2)) fun a => ?_).trans rfl
    match a with | ⟨0, _⟩ => rfl

variable (m : (ℓ : Loc nD τ sig) → Buf (Elt F) ℓ) (ρ : Dev nD → PrngReg)

/-- The reference's run: the result is the one-hot array of the argument, and the argument is unchanged. -/
theorem run : θ_run defs (onTc (τ := τ) (main (F := F))) ⟨m, fun _ => 0, ρ⟩ fun r => ∀ c : Dev nD,
      r.2.mem ((c.tc : Thread nD τ).loc main_v6) = hot (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext i
  rw [extui_apply]
  show (IntOp.cmpi .eq (_ : BitVec 32) (_ : BitVec 32)).setWidth 32 = _
  rw [index_apply, class_apply, setWidth_cmpi_eq]
  rfl

end Cert.ReferenceIdeal.OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference leaves its argument unchanged; it declares no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.OneHot.run (F := Ideal) m ρ)

/-- From equal index arrays the kernel and the reference both end with the one-hot array of it. -/
theorem equal : Cert.algebraic_KernelIdeal_ReferenceIdeal := by
  intro m ρ m' ρ' _ hagree
  refine ⟨fun c => Cert.OneHot.hot (m ((c.tc : Thread Cert.KernelIdeal.nD Cert.KernelIdeal.τ).loc Cert.KernelIdeal.main_arg0)),
    Cert.KernelIdeal.OneHot.run (F := Ideal) m ρ, ?_⟩
  exact (θ_run Cert.ReferenceIdeal.defs _ _).mono
    (fun _ h c => ⟨(h c).1.trans (congrArg Cert.OneHot.hot (hagree c)), (h c).2⟩)
    (Cert.ReferenceIdeal.OneHot.run (F := Ideal) m' ρ')

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, equal⟩

end Cert.Proof

end
